-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "beta_sq" .f32 0x3F4F5C29#32 ((81 / 100 : ℝ) : EReal)
  ∧ IdealRules.named_const.Statement Cert.KernelIdeal.κ "alpha_beta" .f32 0x3DB851EC#32 ((9 / 100 : ℝ) : EReal)
  ∧ IdealRules.named_const.Statement Cert.KernelIdeal.κ "alpha" .f32 0x3DCCCCCD#32 ((1 / 10 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S500x500 : Shape := ⟨2, ![500, 500]⟩
abbrev S500x512 : Shape := ⟨2, ![500, 512]⟩
abbrev S512x768 : Shape := ⟨2, ![512, 768]⟩
abbrev S3x256 : Shape := ⟨2, ![3, 256]⟩
abbrev S2x384000 : Shape := ⟨2, ![2, 384000]⟩
abbrev S2 : Shape := ⟨1, ![2]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S500x500 .f32) (main_arg1 : FVec F S500x512 .f32) (main_arg2 : FVec F S512x768 .f32) (main_arg3 : FVec F S3x256 .f32) (main_arg4 : FVec F S3x256 .f32) (main_arg5 : FVec F S2x384000 .f32) (main_arg6 : FVec F S2 .f32) : IVec S_ 1 :=
  let main_v0 : FVec F S512x768 .f32 := Host.absf main_arg2
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  let main_v4 : FVec F S3x256 .f32 := Host.absf main_arg3
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : FVec F S3x256 .f32 := Host.absf main_arg4
  let main_cst_2 : FVec F S_ .f32 := constant S_ .f32 0x7F800000#32
  let main_v9 : FVec F S3x256 .f32 := broadcastInDim S3x256 ![] bcast_S_S3x256 main_cst_2
  let main_v10 : IVec S3x256 1 := cmpf .olt main_v8 main_v9
  let main_c_3 : IVec S_ 1 := constantI S_ 1 1#1
  let main_v11 : IVec S_ 1 := (fun x v => Host.reduce IntOp.andi x v reducesTo_S3x256_S_d0_1 h_S_) main_v10 main_c_3
  let main_v12 : IVec S_ 1 := andi main_v7 main_v11
  let main_v13 : IVec S_ 1 := andi main_v3 main_v12
  main_v13
-- ==== Kernel.lean ====
abbrev S500x500 : Shape := ⟨2, ![500, 500]⟩
abbrev S500x512 : Shape := ⟨2, ![500, 512]⟩
abbrev S512x768 : Shape := ⟨2, ![512, 768]⟩
abbrev S3x256 : Shape := ⟨2, ![3, 256]⟩
abbrev S2x384000 : Shape := ⟨2, ![2, 384000]⟩
abbrev S2 : Shape := ⟨1, ![2]⟩
abbrev S1x2 : Shape := ⟨2, ![1, 2]⟩
abbrev S_ : Shape := ⟨0, ![]⟩
abbrev S512 : Shape := ⟨1, ![512]⟩
abbrev S1x512 : Shape := ⟨2, ![1, 512]⟩
abbrev S500x768 : Shape := ⟨2, ![500, 768]⟩
abbrev S500x256 : Shape := ⟨2, ![500, 256]⟩
abbrev S1x256 : Shape := ⟨2, ![1, 256]⟩
abbrev S256 : Shape := ⟨1, ![256]⟩
abbrev S500 : Shape := ⟨1, ![500]⟩
abbrev S500x1 : Shape := ⟨2, ![500, 1]⟩
abbrev S1x500 : Shape := ⟨2, ![1, 500]⟩
abbrev S2x500x768 : Shape := ⟨3, ![2, 500, 768]⟩
abbrev S1x500x768 : Shape := ⟨3, ![1, 500, 768]⟩
abbrev S768x1 : Shape := ⟨2, ![768, 1]⟩
abbrev S1x500x1 : Shape := ⟨3, ![1, 500, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 9
  | .vmem => 8
  | .smem => 0
  | _ => 0

abbrev bufTy : (tb : Table) → Fin (tcTables nBuf tb) → BufTy
  | .hbm, ⟨0, _⟩ => ⟨S500x500, .f32⟩
  | .hbm, ⟨1, _⟩ => ⟨S500x512, .f32⟩
  | .hbm, ⟨2, _⟩ => ⟨S512x768, .f32⟩
  | .hbm, ⟨3, _⟩ => ⟨S3x256, .f32⟩
  | .hbm, ⟨4, _⟩ => ⟨S3x256, .f32⟩
  | .hbm, ⟨5, _⟩ => ⟨S2x384000, .f32⟩
  | .hbm, ⟨6, _⟩ => ⟨S2, .f32⟩
  | .hbm, ⟨7, _⟩ => ⟨S1x2, .f32⟩
  | .hbm, ⟨8, _⟩ => ⟨S2, .f32⟩
  | .local _ .vmem, ⟨0, _⟩ => ⟨S500x500, .f32⟩
  | .local _ .vmem, ⟨1, _⟩ => ⟨S500x512, .f32⟩
  | .local _ .vmem, ⟨2, _⟩ => ⟨S512x768, .f32⟩
  | .local _ .vmem, ⟨3, _⟩ => ⟨S3x256, .f32⟩
  | .local _ .vmem, ⟨4, _⟩ => ⟨S3x256, .f32⟩
  | .local _ .vmem, ⟨5, _⟩ => ⟨S2, .f32⟩
  | .local _ .vmem, ⟨6, _⟩ => ⟨S1x2, .f32⟩
  | .local _ .vmem, ⟨7, _⟩ => ⟨S2x384000, .f32⟩
  | _, _ => ⟨S500x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S500x500 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S500x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "alpha" => some ((1 / 10 : ℝ) : EReal)
  | "alpha_beta" => some ((9 / 100 : ℝ) : EReal)
  | "beta_sq" => some ((81 / 100 : ℝ) : EReal)
  | _ => none
-- ==== ReferenceIdeal.lean ====
abbrev S500x500 : Shape := ⟨2, ![500, 500]⟩
abbrev S500x512 : Shape := ⟨2, ![500, 512]⟩
abbrev S512x768 : Shape := ⟨2, ![512, 768]⟩
abbrev S3x256 : Shape := ⟨2, ![3, 256]⟩
abbrev S2x384000 : Shape := ⟨2, ![2, 384000]⟩
abbrev S2 : Shape := ⟨1, ![2]⟩
abbrev S_ : Shape := ⟨0, ![]⟩
abbrev S512 : Shape := ⟨1, ![512]⟩
abbrev S1x512 : Shape := ⟨2, ![1, 512]⟩
abbrev S500x768 : Shape := ⟨2, ![500, 768]⟩
abbrev S500x3x256 : Shape := ⟨3, ![500, 3, 256]⟩
abbrev S3x500 : Shape := ⟨2, ![3, 500]⟩
abbrev S500x3 : Shape := ⟨2, ![500, 3]⟩
abbrev S500x1x3 : Shape := ⟨3, ![500, 1, 3]⟩
abbrev S1x500x3 : Shape := ⟨3, ![1, 500, 3]⟩
abbrev S500x500x3 : Shape := ⟨3, ![500, 500, 3]⟩
abbrev S500x500x1 : Shape := ⟨3, ![500, 500, 1]⟩
abbrev S3x256x500 : Shape := ⟨3, ![3, 256, 500]⟩
abbrev S500 : Shape := ⟨1, ![500]⟩
abbrev S500x1 : Shape := ⟨2, ![500, 1]⟩
abbrev S1x500 : Shape := ⟨2, ![1, 500]⟩
abbrev S384000 : Shape := ⟨1, ![384000]⟩

abbrev nBuf : Space → Nat
  | .hbm => 200
  | .vmem => 0
  | .smem => 0
  | _ => 0

abbrev hbmTy0_0 (i : Nat) : BufTy := match i % 128 with
  | 0 => ⟨S500x500, .f32⟩
  | 1 => ⟨S500x512, .f32⟩
  | 2 => ⟨S512x768, .f32⟩
  | 3 => ⟨S3x256, .f32⟩
  | 4 => ⟨S3x256, .f32⟩
  | 5 => ⟨S2x384000, .f32⟩
  | 6 => ⟨S2, .f32⟩
  | 7 => ⟨S500x512, .f32⟩
  | 8 => ⟨S_, .f32⟩
  | 9 => ⟨S512, .f32⟩
  | 10 => ⟨S1x512, .f32⟩
  | 11 => ⟨S_, .f32⟩
  | 12 => ⟨S1x512, .f32⟩
  | 13 => ⟨S1x512, .f32⟩
  | 14 => ⟨S500x512, .f32⟩
  | 15 => ⟨S500x512, .f32⟩
  | 16 => ⟨S500x768, .f32⟩
  | 17 => ⟨S500x3x256, .f32⟩
  | 18 => ⟨S3x500, .f32⟩
  | 19 => ⟨S500x3, .f32⟩
  | 20 => ⟨S3x500, .f32⟩
  | 21 => ⟨S500x3, .f32⟩
  | 22 => ⟨S500x1x3, .f32⟩
  | 23 => ⟨S1x500x3, .f32⟩
  | 24 => ⟨S500x500x3, .f32⟩
  | 25 => ⟨S500x500x3, .f32⟩
  | 26 => ⟨S500x500x3, .f32⟩
  | 27 => ⟨S_, .f32⟩
  | 28 => ⟨S_, .f32⟩
  | 29 => ⟨S500x500x3, .f32⟩
  | 30 => ⟨S500x500x3, .i1⟩
  | 31 => ⟨S_, .f32⟩
  | 32 => ⟨S500x500x3, .f32⟩
  | 33 => ⟨S500x500x3, .f32⟩
  | 34 => ⟨S500x500x3, .f32⟩
  | 35 => ⟨S_, .f32⟩
  | 36 => ⟨S500x500, .f32⟩
  | 37 => ⟨S500x500, .i1⟩
  | 38 => ⟨S500x500x1, .i1⟩
  | 39 => ⟨S_, .f32⟩
  | 40 => ⟨S500x500x3, .i1⟩
  | 41 => ⟨S500x500x3, .f32⟩
  | 42 => ⟨S500x500x3, .f32⟩
  | 43 => ⟨S_, .f32⟩
  | 44 => ⟨S500x3, .f32⟩
  | 45 => ⟨S_, .f32⟩
  | 46 => ⟨S500x3, .f32⟩
  | 47 => ⟨S500x3, .f32⟩
  | 48 => ⟨S500x1x3, .f32⟩
  | 49 => ⟨S500x500x3, .f32⟩
  | 50 => ⟨S500x500x3, .f32⟩
  | 51 => ⟨S500x500x3, .f32⟩
  | 52 => ⟨S_, .f32⟩
  | 53 => ⟨S500x3, .f32⟩
  | 54 => ⟨S500x1x3, .f32⟩
  | 55 => ⟨S500x500x3, .f32⟩
  | 56 => ⟨S500x500x3, .f32⟩
  | 57 => ⟨S3x256x500, .f32⟩
  | 58 => ⟨S500x3x256, .f32⟩
  | 59 => ⟨S_, .f32⟩
  | 60 => ⟨S500x3x256, .f32⟩
  | 61 => ⟨S500x3x256, .i1⟩
  | 62 => ⟨S_, .f32⟩
  | 63 => ⟨S500x3x256, .f32⟩
  | 64 => ⟨S500x3x256, .i1⟩
  | 65 => ⟨S_, .f32⟩
  | 66 => ⟨S_, .f32⟩
  | 67 => ⟨S500x3x256, .f32⟩
  | 68 => ⟨S500x3x256, .f32⟩
  | 69 => ⟨S500x3x256, .f32⟩
  | 70 => ⟨S_, .f32⟩
  | 71 => ⟨S500x3x256, .f32⟩
  | 72 => ⟨S500x3x256, .f32⟩
  | 73 => ⟨S500x3x256, .f32⟩
  | 74 => ⟨S500x768, .f32⟩
  | 75 => ⟨S_, .f32⟩
  | 76 => ⟨S500, .f32⟩
  | 77 => ⟨S_, .f32⟩
  | 78 => ⟨S500, .f32⟩
  | 79 => ⟨S500, .i1⟩
  | 80 => ⟨S500, .f32⟩
  | 81 => ⟨S_, .f32⟩
  | 82 => ⟨S500, .f32⟩
  | 83 => ⟨S500, .f32⟩
  | 84 => ⟨S_, .f32⟩
  | 85 => ⟨S_, .f32⟩
  | 86 => ⟨S500, .f32⟩
  | 87 => ⟨S500, .f32⟩
  | 88 => ⟨S500x1, .f32⟩
  | 89 => ⟨S500x500, .f32⟩
  | 90 => ⟨S500x500, .f32⟩
  | 91 => ⟨S1x500, .f32⟩
  | 92 => ⟨S500x500, .f32⟩
  | 93 => ⟨S500x500, .f32⟩
  | 94 => ⟨S_, .f32⟩
  | 95 => ⟨S_, .f32⟩
  | 96 => ⟨S_, .f32⟩
  | 97 => ⟨S_, .f32⟩
  | 98 => ⟨S_, .f32⟩
  | 99 => ⟨S500x768, .f32⟩
  | 100 => ⟨S_, .f32⟩
  | 101 => ⟨S500x768, .f32⟩
  | 102 => ⟨S500x768, .f32⟩
  | 103 => ⟨S_, .f32⟩
  | 104 => ⟨S500x768, .f32⟩
  | 105 => ⟨S500x768, .f32⟩
  | 106 => ⟨S500x768, .f32⟩
  | 107 => ⟨S_, .f32⟩
  | 108 => ⟨S_, .f32⟩
  | 109 => ⟨S500x768, .f32⟩
  | 110 => ⟨S_, .f32⟩
  | 111 => ⟨S500x768, .f32⟩
  | 112 => ⟨S500x768, .f32⟩
  | 113 => ⟨S_, .f32⟩
  | 114 => ⟨S500x768, .f32⟩
  | 115 => ⟨S500x768, .f32⟩
  | 116 => ⟨S500x768, .f32⟩
  | 117 => ⟨S_, .f32⟩
  | 118 => ⟨S_, .f32⟩
  | 119 => ⟨S500x768, .f32⟩
  | 120 => ⟨S_, .f32⟩
  | 121 => ⟨S500x768, .f32⟩
  | 122 => ⟨S500x768, .f32⟩
  | 123 => ⟨S_, .f32⟩
  | 124 => ⟨S500x768, .f32⟩
  | 125 => ⟨S500x768, .f32⟩
  | 126 => ⟨S500x768, .f32⟩
  | 127 => ⟨S_, .f32⟩
  | _ => ⟨S500x500, .f32⟩

abbrev hbmTy0_1 (i : Nat) : BufTy := match i % 128 with
  | 0 => ⟨S_, .f32⟩
  | 1 => ⟨S500x768, .f32⟩
  | 2 => ⟨S_, .f32⟩
  | 3 => ⟨S500x768, .f32⟩
  | 4 => ⟨S500x768, .f32⟩
  | 5 => ⟨S_, .f32⟩
  | 6 => ⟨S500x768, .f32⟩
  | 7 => ⟨S500x768, .f32⟩
  | 8 => ⟨S500x768, .f32⟩
  | 9 => ⟨S_, .f32⟩
  | 10 => ⟨S_, .f32⟩
  | 11 => ⟨S500x768, .f32⟩
  | 12 => ⟨S_, .f32⟩
  | 13 => ⟨S500x768, .f32⟩
  | 14 => ⟨S500x768, .f32⟩
  | 15 => ⟨S_, .f32⟩
  | 16 => ⟨S500x768, .f32⟩
  | 17 => ⟨S500x768, .f32⟩
  | 18 => ⟨S500x768, .f32⟩
  | 19 => ⟨S_, .f32⟩
  | 20 => ⟨S_, .f32⟩
  | 21 => ⟨S500x768, .f32⟩
  | 22 => ⟨S_, .f32⟩
  | 23 => ⟨S500x768, .f32⟩
  | 24 => ⟨S500x768, .f32⟩
  | 25 => ⟨S_, .f32⟩
  | 26 => ⟨S500x768, .f32⟩
  | 27 => ⟨S500x768, .f32⟩
  | 28 => ⟨S500x768, .f32⟩
  | 29 => ⟨S_, .f32⟩
  | 30 => ⟨S_, .f32⟩
  | 31 => ⟨S500x768, .f32⟩
  | 32 => ⟨S_, .f32⟩
  | 33 => ⟨S500x768, .f32⟩
  | 34 => ⟨S500x768, .f32⟩
  | 35 => ⟨S_, .f32⟩
  | 36 => ⟨S500x768, .f32⟩
  | 37 => ⟨S500x768, .f32⟩
  | 38 => ⟨S500x768, .f32⟩
  | 39 => ⟨S_, .f32⟩
  | 40 => ⟨S_, .f32⟩
  | 41 => ⟨S500x768, .f32⟩
  | 42 => ⟨S_, .f32⟩
  | 43 => ⟨S500x768, .f32⟩
  | 44 => ⟨S500x768, .f32⟩
  | 45 => ⟨S_, .f32⟩
  | 46 => ⟨S500x768, .f32⟩
  | 47 => ⟨S500x768, .f32⟩
  | 48 => ⟨S500x768, .f32⟩
  | 49 => ⟨S_, .f32⟩
  | 50 => ⟨S_, .f32⟩
  | 51 => ⟨S500x768, .f32⟩
  | 52 => ⟨S_, .f32⟩
  | 53 => ⟨S500x768, .f32⟩
  | 54 => ⟨S500x768, .f32⟩
  | 55 => ⟨S_, .f32⟩
  | 56 => ⟨S500x768, .f32⟩
  | 57 => ⟨S500x768, .f32⟩
  | 58 => ⟨S500x768, .f32⟩
  | 59 => ⟨S_, .f32⟩
  | 60 => ⟨S_, .f32⟩
  | 61 => ⟨S500x768, .f32⟩
  | 62 => ⟨S_, .f32⟩
  | 63 => ⟨S500x768, .f32⟩
  | 64 => ⟨S500x768, .f32⟩
  | 65 => ⟨S_, .f32⟩
  | 66 => ⟨S500x768, .f32⟩
  | 67 => ⟨S500x768, .f32⟩
  | 68 => ⟨S500x768, .f32⟩
  | 69 => ⟨S384000, .f32⟩
  | 70 => ⟨S2, .f32⟩
  | 71 => ⟨S2, .f32⟩
  | _ => ⟨S500x500, .f32⟩

abbrev hbmTy (i : Nat) : BufTy := match i / 128 with
  | 0 => hbmTy0_0 i
  | 1 => hbmTy0_1 i
  | _ => ⟨S500x500, .f32⟩

abbrev bufTy : (tb : Table) → Fin (tcTables nBuf tb) → BufTy
  | .hbm, ⟨i, _⟩ => hbmTy i
  | _, _ => ⟨S500x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_cst_1 : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_v4 : Ref sig .tc := ⟨.hbm, 68, rfl⟩
abbrev main_call2_v5 : Ref sig .tc := ⟨.hbm, 69, rfl⟩
abbrev main_call2_cst_2 : Ref sig .tc := ⟨.hbm, 70, rfl⟩
abbrev main_call2_v6 : Ref sig .tc := ⟨.hbm, 71, rfl⟩
abbrev main_call2_v7 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_9 : Ref sig .tc := ⟨.hbm, 81, rfl⟩
abbrev main_v42 : Ref sig .tc := ⟨.hbm, 82, rfl⟩
abbrev main_v43 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_11 : Ref sig .tc := ⟨.hbm, 94, rfl⟩
abbrev main_cst_12 : Ref sig .tc := ⟨.hbm, 95, rfl⟩
abbrev main_v51 : Ref sig .tc := ⟨.hbm, 96, rfl⟩
abbrev main_cst_13 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_14 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_15 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_16 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_17 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_18 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_19 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_20 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_21 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_22 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩

abbrev nD : Nat := 1
abbrev τ : Topo := Topo.v7x

variable {F : FTy → Type} [FloatOps F]
-- ==== Proof.KernelRun.lean ====
module

public import proofs.«01_k».proof.Proof.Gen.KernelIdeal.Frame
public import Idealize.ShloMosaic.Lib.Pipeline.ValueKit
public import Idealize.ShloMosaic.Lib.Pipeline.ReadBack

/-! The run of the launch: which array it leaves as its result, as one function of its arguments' arrays. -/

@[expose] public section

set_option maxRecDepth 16384

noncomputable section

namespace Cert.Proof.KernelRun

open Cert.KernelIdeal Cert.KernelIdeal.Gen Idealize.ShloMosaic Idealize.ShloMosaic.TcCoe Idealize.SL.Sem
open Idealize.ShloMosaic.Tactic
open Idealize.ShloMosaic.Pipeline (Dat)

variable {F : FTy → Type} [FloatOps F] [Named F]

variable (m : (ℓ : Loc nD τ sig) → Buf (Elt F) ℓ) (ρ : Dev nD → PrngReg)

/-- Every window has block index zero at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0] ∧ win0_6.index t = ![0, 0] :=
  (by decide +kernel : ∀ t : Fin grid0.N, _)

/-- Window 0 shows the body all of the adjacency. -/
theorem iblk0 (c : Dev nD) (t : Fin cfg0.N) : iblk m c 0 t = m ((c : Thread nD τ).loc main_arg0) := by
  blk_ext! [iblk, V, idx t]
/-- Window 1 shows the body all of the features. -/
theorem iblk1 (c : Dev nD) (t : Fin cfg0.N) : iblk m c 1 t = m ((c : Thread nD τ).loc main_arg1) := by
  blk_ext! [iblk, V, idx t]
/-- Window 2 shows the body all of the feature weights. -/
theorem iblk2 (c : Dev nD) (t : Fin cfg0.N) : iblk m c 2 t = m ((c : Thread nD τ).loc main_arg2) := by
  blk_ext! [iblk, V, idx t]
/-- Window 3 shows the body all of the first attention table. -/
theorem iblk3 (c : Dev nD) (t : Fin cfg0.N) : iblk m c 3 t = m ((c : Thread nD τ).loc main_arg3) := by
  blk_ext! [iblk, V, idx t]
/-- Window 4 shows the body all of the second attention table. -/
theorem iblk4 (c : Dev nD) (t : Fin cfg0.N) : iblk m c 4 t = m ((c : Thread nD τ).loc main_arg4) := by
  blk_ext! [iblk, V, idx t]
/-- Window 5 shows the body all of the final bias. -/
theorem iblk5 (c : Dev nD) (t : Fin cfg0.N) : iblk m c 5 t = m ((c : Thread nD τ).loc main_arg6) := by
  blk_ext! [iblk, V, idx t]

/-- The first row of a table of three attention vectors, as the body loads it. -/
def ROW0 (a : Vec F S3x256 .f32) : Vec F S1x256 .f32 := View.ld a (Rect.unit ![0, 0] ![1, 256] inb_S3x256_S1x256_0_0)
/-- The second row. -/
def ROW1 (a : Vec F S3x256 .f32) : Vec F S1x256 .f32 := View.ld a (Rect.unit ![1, 0] ![1, 256] inb_S3x256_S1x256_1_0)
/-- The third row. -/
def ROW2 (a : Vec F S3x256 .f32) : Vec F S1x256 .f32 := View.ld a (Rect.unit ![2, 0] ![1, 256] inb_S3x256_S1x256_2_0)

section Parts

variable (A : Vec F S500x500 .f32) (x : Vec F S500x512 .f32) (W : Vec F S512x768 .f32)
  (s d : Vec F S3x256 .f32)

/-- What the body computes for head 0, after its ELU. -/
def HEAD0 : FVec F S500x256 .f32 :=
  k0_pay7 (k0_pay4 x W) (k0_pay5 A x W (ROW0 s) (ROW0 d)) (k0_pay6 A x W (ROW0 s) (ROW0 d))

/-- What the body computes for head 1, after its ELU. -/
def HEAD1 : FVec F S500x256 .f32 :=
  k0_pay11 (k0_pay8 (k0_pay2 x W)) (k0_pay9 (k0_pay2 x W) (k0_pay3 A) (ROW1 s) (ROW1 d))
    (k0_pay10 (k0_pay2 x W) (k0_pay3 A) (ROW1 s) (ROW1 d))

/-- Head 2's columns of the hidden features. -/
def COLS2 : FVec F S500x256 .f32 := k0_pay12 (k0_pay2 x W)
/-- Head 2's shifted exponentials. -/
def EXPS2 : FVec F S500x500 .f32 := k0_pay13 (k0_pay2 x W) (k0_pay3 A) (ROW2 s) (ROW2 d)

/-- The block `[1, 2]` that the body stores, as one function of the argument arrays. -/
def OUT (w : Vec F S2x384000 .f32) (b : Vec F S2 .f32) : FVec F S1x2 .f32 :=
  k0_pay1 (k0_pay16 A) (k0_pay17 A (HEAD0 A x W s d) (HEAD1 A x W s d) (COLS2 x W) (EXPS2 A x W s d))
    (k0_pay18 w) (k0_pay19 A (HEAD0 A x W s d) (HEAD1 A x W s d) (COLS2 x W) (EXPS2 A x W s d)) b

end Parts

/-- The copy of the weights in scratch, loaded whole, is the weights. -/
theorem weights_back (X : Vec F S2x384000 .f32) :
    (View.whole cc0_scratch0).readCov
      ([⟨Rect.whole S2x384000, ReadAs.same.apply (View.read (Elt F) (View.whole main_arg5) X)⟩] : List (View.Piece (Elt F) S2x384000 .f32))
      (Rect.unit (s := S2x384000) ![0, 0] ![2, 384000] inb_S2x384000_S2x384000_0_0).toLoadRect = X := by
  have h : View.canon ([⟨Rect.whole S2x384000, X⟩] : List (View.Piece (Elt F) S2x384000 .f32)) = X :=
    View.canon_cons_unit_lit (S := S2x384000) (off := fun _ => 0) _ X [] (fun _ => rfl)
  rw [View.readCov_eq_canon']
  change (fun j => View.canon ([⟨Rect.whole S2x384000, X⟩] : List (View.Piece (Elt F) S2x384000 .f32)) _) = X
  rw [h]
  exact View.ld_unit_lit (S := S2x384000) (off := ![0, 0]) inb_S2x384000_S2x384000_0_0 X (by decide)

/-- After the last grid point the output window's array is the block the body stores. -/
theorem final (c : Dev nD) : (dats m 0 c).arrAt 6 cfg0.N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_after_last 6 t0_0 (by decide +kernel) _ fun j => ?_
  blk_simp
  rw [after0_6]
  unfold outsAt0
  frame_out
  rw [iblk0, iblk1, iblk2, iblk3, iblk4, iblk5]
  simp only [read_unread_whole, V_main_arg5]
  rw [weights_back]
  rfl

/-- The vector `[2]` that the program returns: the stored block with its unit axis dropped. -/
def RES (A : Vec F S500x500 .f32) (x : Vec F S500x512 .f32) (W : Vec F S512x768 .f32) (s d : Vec F S3x256 .f32)
    (w : Vec F S2x384000 .f32) (b : Vec F S2 .f32) : Vec F S2 .f32 :=
  shapeCast S2 (OUT A x W s d w b) shapeCasts_S1x2_S2

/-- The run of the program: the result array ends at `RES` of the argument arrays, which end as they were. -/
theorem run : θ_run defs (onTc (τ := τ) (main (F := F))) ⟨m, fun _ => 0, ρ⟩ fun r => ∀ c : Dev nD,
      r.2.mem ((c.tc : Thread nD τ).loc main_v1)
        = RES (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨?_, h.2 c⟩) (θ_run_and (run_main m ρ) (unchanged m ρ))
  have h1 := (h.1 c).2 main_v1 (Pipeline.mem_restRefs_of main_v1 (by decide) (by decide))
  refine h1.trans ?_
  have hA : Pipeline.withArrays cfg0.spec c (V0 m c) (fun w => (dats m 0 c).arrAt w cfg0.N) (Proc.devRef .tc main_v0)
      = (dats m 0 c).arrAt 6 cfg0.N :=
    Pipeline.withArrays_arr cfg0.spec (by decide) c (V0 m c) (fun w => (dats m 0 c).arrAt w cfg0.N) 6
  unfold Pipeline.afterTail₀
  simp only [hostOps1, List.flatten_cons, List.flatten_nil, List.append_nil, List.cons_append]
  after_results
  exact congrArg (fun X : Vec F S1x2 .f32 => shapeCast S2 X shapeCasts_S1x2_S2) (hA.trans (final m c))

end Cert.Proof.KernelRun

end
-- ==== Proof.Scalars.lean ====
module

public import Idealize.ShloMosaic.PureOps.Ideal.Laws
public import Idealize.ShloMosaic.Lib.IdealHost

/-! Scalar facts over the extended reals: which values are real numbers, what the literals of the two programs denote,
and the few identities between the scalar operations that the two programs spell differently. -/

@[expose] public section

noncomputable section

namespace Cert.Proof.Scalars

open Idealize.ShloMosaic

/-- The extended real is a real number. -/
def IsReal (x : EReal) : Prop := ∃ r : ℝ, x = (r : EReal)

/-- A real number, read as an extended real, is real. -/
theorem isReal_coe (r : ℝ) : IsReal (r : EReal) := ⟨r, rfl⟩

/-- Zero is real. -/
theorem isReal_zero : IsReal 0 := ⟨0, rfl⟩

/-- Neither infinity, hence real. -/
theorem isReal_of_ne {x : EReal} (ht : x ≠ ⊤) (hb : x ≠ ⊥) : IsReal x := by
  induction x with
  | bot => exact absurd rfl hb
  | top => exact absurd rfl ht
  | coe r => exact ⟨r, rfl⟩

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is real. -/
theorem IsReal.sum {ι : Type} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum of reals, computed in the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- If a sum of two is real, both are. -/
theorem isReal_of_add {x y : EReal} (h : IsReal (x + y)) : IsReal x ∧ IsReal y := by
  obtain ⟨r, hr⟩ := h
  induction x with
  | bot => simp at hr
  | top =>
    induction y with
    | bot => simp at hr
    | top => simp at hr
    | coe b => simp at hr
  | coe a =>
    induction y with
    | bot => simp at hr
    | top => simp at hr
    | coe b => exact ⟨⟨a, rfl⟩, ⟨b, rfl⟩⟩

/-- The terms of a finite sum that is real are all real. -/
theorem isReal_of_sum {ι : Type} {s : Finset ι} {f : ι → EReal} (h : IsReal (∑ i ∈ s, f i)) : ∀ i ∈ s, IsReal (f i) := by
  classical
  induction s using Finset.induction_on with
  | empty => intro i hi; simp at hi
  | insert a s ha ih =>
    rw [Finset.sum_insert ha] at h
    obtain ⟨h1, h2⟩ := isReal_of_add h
    intro i hi
    rcases Finset.mem_insert.mp hi with rfl | hi
    · exact h1
    · exact ih h2 i hi

/-! ### Literals -/

/-- The pattern of minus infinity. -/
theorem lit_bot : Ideal.ofBits .f32 4286578688#32 = ⊥ := by
  simp [Ideal.ofBits, Ideal.ieee]

/-- The pattern of plus infinity. -/
theorem lit_top : Ideal.ofBits .f32 2139095040#32 = ⊤ := by
  simp [Ideal.ofBits, Ideal.ieee]

/-- The slope of the leaky rectifier is a real number. -/
theorem lit_slope : IsReal (Ideal.ofBits .f32 1045220557#32) := by
  simp only [Ideal.ofBits, Ideal.ieee]
  norm_num
  exact isReal_coe _

/-- The value standing for a missing edge is a real number. -/
theorem lit_mask : IsReal (Ideal.ofBits .f32 3463342888#32) := by
  simp only [Ideal.ofBits, Ideal.ieee]
  norm_num
  exact isReal_coe _

/-- The floor of the column norms is positive. -/
theorem lit_floor : 0 < Ideal.ofBits .f32 730643660#32 := by
  have h : Ideal.ofBits .f32 730643660#32 = (((9223372 : ℝ) * 2 ^ (-63 : ℤ) : ℝ) : EReal) := by
    simp [Ideal.ofBits, Ideal.ieee, -EReal.coe_mul]
  rw [h]
  exact EReal.coe_pos.mpr (by positivity)

/-- The pattern of ten. -/
theorem lit_ten : Ideal.ofBits .f32 1092616192#32 = ((10 : ℝ) : EReal) := by
  simp [Ideal.ofBits, Ideal.ieee, -EReal.coe_mul]; norm_num

/-! ### Division -/

/-- The quotient of two reals, the second not zero, is the quotient in the reals. -/
theorem div_coe_coe {a b : ℝ} (hb : b ≠ 0) : Ideal.div (a : EReal) (b : EReal) = ((a / b : ℝ) : EReal) := by
  have h : ((b : ℝ) : EReal) ≠ 0 := by exact_mod_cast hb
  rw [Ideal.div, if_neg h, ← EReal.coe_inv, ← EReal.coe_mul, div_eq_mul_inv]

/-- Anything over plus infinity is zero. -/
theorem div_top (x : EReal) : Ideal.div x ⊤ = 0 := by
  rw [Ideal.div, if_neg (by simp)]; simp

/-- `1 / 10` as the reference computes it. -/
theorem one_div_ten : Ideal.div 1 (Ideal.ofBits .f32 1092616192#32) = ((1 / 10 : ℝ) : EReal) := by
  rw [lit_ten, ← EReal.coe_one, div_coe_coe (by norm_num)]

/-! ### Square roots -/

/-- The inverse square root of plus infinity is zero. -/
theorem rsqrt_top : Ideal.rsqrt ⊤ = 0 := rfl

/-- The square root of plus infinity is plus infinity. -/
theorem sqrt_top : Ideal.sqrt ⊤ = ⊤ := rfl

/-- The inverse square root of a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The square root of a positive real. -/
theorem sqrt_pos {r : ℝ} (h : 0 < r) : Ideal.sqrt (r : EReal) = ((Real.sqrt r : ℝ) : EReal) := by
  rw [Ideal.sqrt_coe, if_neg (not_lt.mpr h.le)]

/-- The inverse square root of a positive degree, and `0` for any other, is a real number. -/
theorem dinv_real (t : EReal) : IsReal (if 0 < t then Ideal.rsqrt t else 0) := by
  induction t with
  | bot => simp [isReal_zero]
  | top => simpa [rsqrt_top] using isReal_zero
  | coe r =>
    by_cases h : (0 : EReal) < (r : EReal)
    · have hr : 0 < r := by exact_mod_cast h
      rw [if_pos h, rsqrt_pos hr]
      exact isReal_coe _
    · rw [if_neg h]; exact isReal_zero

/-- The inverse square root is the quotient of one by the square root, at every positive extended real. -/
theorem dinv_eq (t : EReal) :
    (if 0 < t then Ideal.rsqrt t else 0) = if 0 < t then Ideal.div 1 (Ideal.sqrt t) else 0 := by
  induction t with
  | bot => simp
  | top => simp [rsqrt_top, sqrt_top, div_top]
  | coe r =>
    by_cases h : (0 : EReal) < (r : EReal)
    · have hr : 0 < r := by exact_mod_cast h
      rw [if_pos h, if_pos h, rsqrt_pos hr, sqrt_pos hr, ← EReal.coe_one, div_coe_coe (Real.sqrt_ne_zero'.mpr hr), one_div]
    · rw [if_neg h, if_neg h]

/-- A row scaled by the inverse root of its own sum is real: if the sum is not a positive real the factor is `0`, and
if it is, every entry of the row is real. -/
theorem row_scaled_real {ι : Type} [Fintype ι] (a : ι → EReal) (i : ι) :
    IsReal (a i * if 0 < ∑ j, a j then Ideal.rsqrt (∑ j, a j) else 0) := by
  by_cases hs : IsReal (∑ j, a j)
  · exact (isReal_of_sum hs i (Finset.mem_univ i)).mul (dinv_real _)
  · have h0 : (if 0 < ∑ j, a j then Ideal.rsqrt (∑ j, a j) else 0) = 0 := by
      generalize (∑ j, a j) = t at hs
      induction t with
      | bot => simp
      | top => simp [rsqrt_top]
      | coe r => exact absurd (isReal_coe r) hs
    rw [h0, mul_zero]; exact isReal_zero

/-! ### Exponentials and maxima -/

/-- The exponential of a real is a positive real. -/
theorem exp_real {x : EReal} (h : IsReal x) : ∃ r : ℝ, 0 < r ∧ Ideal.exp x = (r : EReal) := by
  obtain ⟨a, rfl⟩ := h
  exact ⟨Real.exp a, Real.exp_pos a, rfl⟩

/-- The larger of two reals is real. -/
theorem IsReal.max {x y : EReal} (hx : IsReal x) (hy : IsReal y) : IsReal (max x y) := by
  rcases max_choice x y with h | h <;> rw [h] <;> assumption

/-- The largest of finitely many reals, at least one, started from minus infinity, is real. -/
theorem foldmax_real {n : ℕ} (hn : 0 < n) (f : Fin n → EReal) (h : ∀ i, IsReal (f i)) :
    IsReal (Finset.fold max ⊥ f Finset.univ) := by
  classical
  have key : ∀ s : Finset (Fin n), Finset.fold max ⊥ f s = ⊥ ∧ s = ∅ ∨ IsReal (Finset.fold max ⊥ f s) := by
    intro s
    induction s using Finset.induction_on with
    | empty => left; simp
    | insert a s ha ih =>
      right
      rw [Finset.fold_insert ha]
      rcases ih with ⟨e, -⟩ | e
      · rw [e, max_eq_left bot_le]; exact h a
      · exact (h a).max e
  rcases key Finset.univ with ⟨-, e⟩ | e
  · exact absurd (Finset.mem_univ (⟨0, hn⟩ : Fin n)) (by rw [e]; simp)
  · exact e

/-- Starting the maximum from minus infinity a second time changes nothing. -/
theorem max_lit_bot (x : EReal) : max (Ideal.ofBits .f32 4286578688#32) x = x := by
  rw [lit_bot]; exact max_eq_right bot_le

/-- The exponential linear unit with its argument cut at zero, and with its argument replaced above zero. -/
theorem elu_eq (q : EReal) :
    (if 0 < q then q else Ideal.exp (min q 0) - 1) = if 0 < q then q else Ideal.exp (if 0 < q then 0 else q) - 1 := by
  by_cases h : 0 < q
  · rw [if_pos h, if_pos h]
  · rw [if_neg h, if_neg h, if_neg h, min_eq_left (not_lt.mp h)]

/-- The exponential linear unit of a real is real. -/
theorem elu_real {q : EReal} (h : IsReal q) : IsReal (if 0 < q then q else Ideal.exp (min q 0) - 1) := by
  split
  · exact h
  · obtain ⟨r, -, e⟩ := exp_real (x := min q 0) (by
      rcases min_choice q 0 with e | e <;> rw [e]
      · exact h
      · exact isReal_zero)
    rw [e]
    exact (isReal_coe r).sub ⟨1, rfl⟩

/-! ### The column normalisation -/

/-- An entry over its column's sum of magnitudes, floored at a positive number, is real whatever the column holds: an
infinite entry makes the sum infinite, and the quotient `0`. -/
theorem normalised_real {ι : Type} [Fintype ι] (x : ι → EReal) (i : ι) :
    IsReal (Ideal.div (x i) (max (∑ j, FloatOps.absf (F := Ideal) (φ := .f32) (x j)) (Ideal.ofBits .f32 730643660#32))) := by
  have abs_eq : ∀ y : EReal, FloatOps.absf (F := Ideal) (φ := .f32) y = max y (-y) := fun y => rfl
  simp only [abs_eq]
  have hpos : 0 < max (∑ j, max (x j) (-(x j))) (Ideal.ofBits .f32 730643660#32) := lt_max_of_lt_right lit_floor
  have hnn : ∀ y : EReal, 0 ≤ max y (-y) := by
    intro y
    rcases le_total 0 y with h | h
    · exact le_max_of_le_left h
    · exact le_max_of_le_right (EReal.neg_nonneg.mpr h)
  have hle : max (x i) (-(x i)) ≤ ∑ j, max (x j) (-(x j)) :=
    Finset.single_le_sum (f := fun j => max (x j) (-(x j))) (fun j _ => hnn (x j)) (Finset.mem_univ i)
  have hle' := hle.trans (le_max_left _ (Ideal.ofBits .f32 730643660#32))
  generalize max (∑ j, max (x j) (-(x j))) (Ideal.ofBits .f32 730643660#32) = t at hpos hle' ⊢
  induction t with
  | bot => simp at hpos
  | top => rw [div_top]; exact isReal_zero
  | coe r =>
    have hr : r ≠ 0 := (EReal.coe_pos.mp hpos).ne'
    have hx : IsReal (x i) := by
      refine isReal_of_ne ?_ ?_ <;> intro e <;> rw [e] at hle' <;> simp at hle'
    obtain ⟨y, e⟩ := hx
    rw [e, div_coe_coe hr]; exact isReal_coe _

end Cert.Proof.Scalars

end
-- ==== Proof.Spec.lean ====
module

public import proofs.«01_k».proof.Proof.Scalars

/-! The network as functions of the entries of its arrays over the extended reals: the hidden features, one attention
head, the propagation over the graph, the final linear map. The definitions follow the plain form of the computation;
the theorems give the two rearrangements (dividing by the softmax sum after the product, two propagation steps in one)
and the fact they rest on, that every intermediate value is a real number. -/

@[expose] public section

noncomputable section

namespace Cert.Proof.Spec

open Idealize.ShloMosaic Cert.Proof.Scalars

/-- A matrix of extended reals all of whose entries are real numbers. -/
def RealMat {ι κ : Type} (H : ι → κ → EReal) : Prop := ∀ i k, IsReal (H i k)

/-! ### Features -/

/-- The features, each column divided by its sum of magnitudes (floored at a small positive number). -/
def normed (x : Fin 500 → Fin 512 → EReal) (i : Fin 500) (c : Fin 512) : EReal :=
  Ideal.div (x i c) (max (∑ r, FloatOps.absf (F := Ideal) (φ := .f32) (x r c)) (Ideal.ofBits .f32 730643660#32))

/-- The hidden features of all heads side by side: the normalised features times the weights. -/
def hidden (x : Fin 500 → Fin 512 → EReal) (W : Fin 512 → Fin 768 → EReal) (i : Fin 500) (k : Fin 768) : EReal :=
  ∑ c, normed x i c * W c k

/-- With finite weights the hidden features are real, whatever the features are. -/
theorem hidden_real (x : Fin 500 → Fin 512 → EReal) {W : Fin 512 → Fin 768 → EReal} (hW : RealMat W) :
    RealMat (hidden x W) := fun i k =>
  IsReal.sum fun c _ => (normalised_real (fun r => x r c) i).mul (hW c k)

/-! ### One attention head -/

/-- The attention score of `j` for `i`: the leaky rectifier of the two projections' sum where there is an edge, a large
negative number where there is none. -/
def score (A : Fin 500 → Fin 500 → EReal) (H : Fin 500 → Fin 256 → EReal) (s d : Fin 256 → EReal) (i j : Fin 500) : EReal :=
  if 0 < A i j then
    if 0 ≤ ∑ k, H i k * s k + ∑ k, H j k * d k then ∑ k, H i k * s k + ∑ k, H j k * d k
    else Ideal.ofBits .f32 1045220557#32 * (∑ k, H i k * s k + ∑ k, H j k * d k)
  else Ideal.ofBits .f32 3463342888#32

/-- The largest entry of row `i`. -/
def rowMax (E : Fin 500 → Fin 500 → EReal) (i : Fin 500) : EReal :=
  Finset.fold max (Ideal.ofBits .f32 4286578688#32) (E i) Finset.univ

/-- The exponentials of a row, shifted by its largest entry. -/
def expo (E : Fin 500 → Fin 500 → EReal) (i j : Fin 500) : EReal := Ideal.exp (E i j - rowMax E i)

/-- The features averaged with the normalised weights `p`: normalise each weight, then combine. -/
def mix (p : Fin 500 → Fin 500 → EReal) (H : Fin 500 → Fin 256 → EReal) (i : Fin 500) (k : Fin 256) : EReal :=
  ∑ j, H j k * Ideal.div (p i j) (∑ l, p i l)

/-- The same average with the division at the end: combine, then divide once. -/
def mixLate (p : Fin 500 → Fin 500 → EReal) (H : Fin 500 → Fin 256 → EReal) (i : Fin 500) (k : Fin 256) : EReal :=
  Ideal.div (∑ j, p i j * H j k) (∑ j, p i j)

/-- The exponential linear unit. -/
def elu (q : EReal) : EReal := if 0 < q then q else Ideal.exp (min q 0) - 1

/-- One head of attention over features `H` with the attention vectors `s`, `d`. -/
def head (A : Fin 500 → Fin 500 → EReal) (H : Fin 500 → Fin 256 → EReal) (s d : Fin 256 → EReal) (i : Fin 500)
    (k : Fin 256) : EReal := elu (mix (expo (score A H s d)) H i k)

variable {A : Fin 500 → Fin 500 → EReal} {H : Fin 500 → Fin 256 → EReal} {s d : Fin 256 → EReal}

/-- Scores of real features and real attention vectors are real. -/
theorem score_real (hH : RealMat H) (hs : ∀ k, IsReal (s k)) (hd : ∀ k, IsReal (d k)) : RealMat (score A H s d) := by
  intro i j
  have ht : IsReal (∑ k, H i k * s k + ∑ k, H j k * d k) :=
    (IsReal.sum fun k _ => (hH i k).mul (hs k)).add (IsReal.sum fun k _ => (hH j k).mul (hd k))
  unfold score
  split
  · split
    · exact ht
    · exact lit_slope.mul ht
  · exact lit_mask

/-- The shifted exponentials of real scores are positive reals. -/
theorem expo_pos {E : Fin 500 → Fin 500 → EReal} (hE : RealMat E) (i j : Fin 500) :
    ∃ r : ℝ, 0 < r ∧ expo E i j = (r : EReal) := by
  refine exp_real ((hE i j).sub ?_)
  unfold rowMax
  rw [lit_bot]
  exact foldmax_real (by decide) _ (hE i)

/-- Dividing once at the end gives the same average as dividing every weight, for positive real weights and real
features. -/
theorem mixLate_eq {p : Fin 500 → Fin 500 → EReal} (hp : ∀ i j, ∃ r : ℝ, 0 < r ∧ p i j = (r : EReal)) (hH : RealMat H)
    (i : Fin 500) (k : Fin 256) : mixLate p H i k = mix p H i k := by
  choose q hq hpq using hp
  choose g hg using hH
  have hsum : ∑ j, p i j = ((∑ j, q i j : ℝ) : EReal) := by rw [← sum_coe]; exact Finset.sum_congr rfl fun j _ => hpq i j
  have hne : (∑ j, q i j) ≠ 0 :=
    (Finset.sum_pos (fun j _ => hq i j) ⟨(0 : Fin 500), Finset.mem_univ _⟩).ne'
  have hnum : ∑ j, p i j * H j k = ((∑ j, q i j * g j k : ℝ) : EReal) := by
    rw [← sum_coe]
    exact Finset.sum_congr rfl fun j _ => by rw [hpq, hg, EReal.coe_mul]
  unfold mixLate mix
  rw [hnum, hsum, div_coe_coe hne, Finset.sum_div, ← sum_coe]
  refine Finset.sum_congr rfl fun j _ => ?_
  rw [hpq, hg, div_coe_coe hne, ← EReal.coe_mul]
  congr 1
  ring

/-- The average with positive real weights of real features is real. -/
theorem mix_real {p : Fin 500 → Fin 500 → EReal} (hp : ∀ i j, ∃ r : ℝ, 0 < r ∧ p i j = (r : EReal)) (hH : RealMat H) :
    RealMat (mix p H) := by
  intro i k
  choose q hq hpq using hp
  have hsum : ∑ j, p i j = ((∑ j, q i j : ℝ) : EReal) := by rw [← sum_coe]; exact Finset.sum_congr rfl fun j _ => hpq i j
  have hne : (∑ j, q i j) ≠ 0 :=
    (Finset.sum_pos (fun j _ => hq i j) ⟨(0 : Fin 500), Finset.mem_univ _⟩).ne'
  refine IsReal.sum fun j _ => (hH j k).mul ?_
  rw [hsum, hpq, div_coe_coe hne]
  exact isReal_coe _

/-- A head with the division at the end is the head. -/
theorem head_late (hH : RealMat H) (hs : ∀ k, IsReal (s k)) (hd : ∀ k, IsReal (d k)) (i : Fin 500) (k : Fin 256) :
    elu (mixLate (expo (score A H s d)) H i k) = head A H s d i k :=
  congrArg elu (mixLate_eq (expo_pos (score_real hH hs hd)) hH i k)

/-- A head of real features and real attention vectors is real. -/
theorem head_real (hH : RealMat H) (hs : ∀ k, IsReal (s k)) (hd : ∀ k, IsReal (d k)) : RealMat (head A H s d) :=
  fun i k => elu_real (mix_real (expo_pos (score_real hH hs hd)) hH i k)

/-! ### The heads side by side -/

/-- Column `k` of head `h`. -/
def col (h : Fin 3) (k : Fin 256) : Fin 768 := ⟨h.val * 256 + k.val, by omega⟩

/-- The head a column belongs to. -/
def headOf (f : Fin 768) : Fin 3 := ⟨f.val / 256, by omega⟩

/-- The place of a column within its head. -/
def placeOf (f : Fin 768) : Fin 256 := ⟨f.val % 256, by omega⟩

/-- The three heads side by side. -/
def heads (A : Fin 500 → Fin 500 → EReal) (x : Fin 500 → Fin 512 → EReal) (W : Fin 512 → Fin 768 → EReal)
    (s d : Fin 3 → Fin 256 → EReal) (i : Fin 500) (f : Fin 768) : EReal :=
  head A (fun i k => hidden x W i (col (headOf f) k)) (s (headOf f)) (d (headOf f)) i (placeOf f)

/-- With finite weights and attention vectors the three heads are real. -/
theorem heads_real (A : Fin 500 → Fin 500 → EReal) (x : Fin 500 → Fin 512 → EReal) {W : Fin 512 → Fin 768 → EReal}
    {s d : Fin 3 → Fin 256 → EReal} (hW : RealMat W) (hs : RealMat s) (hd : RealMat d) : RealMat (heads A x W s d) :=
  fun i _ => head_real (fun i _ => hidden_real x hW i _) (hs _) (hd _) i _

/-! ### Propagation -/

/-- The inverse square root of a node's degree, `0` where the degree is not positive. -/
def dinv (A : Fin 500 → Fin 500 → EReal) (i : Fin 500) : EReal :=
  if 0 < ∑ j, A i j then Ideal.rsqrt (∑ j, A i j) else 0

/-- The symmetrically normalised adjacency. -/
def adj (A : Fin 500 → Fin 500 → EReal) (i j : Fin 500) : EReal := A i j * dinv A i * dinv A j

/-- The normalised adjacency is real, whatever the adjacency holds. -/
theorem adj_real (A : Fin 500 → Fin 500 → EReal) : RealMat (adj A) := fun i j =>
  (show IsReal (A i j * dinv A i) from row_scaled_real (A i) j).mul (dinv_real _)

/-- One propagation step from `H`, with restart at `G`. -/
def step (B : Fin 500 → Fin 500 → EReal) (G H : Fin 500 → Fin 768 → EReal) (n : Fin 500) (f : Fin 768) : EReal :=
  ((9 / 10 : ℝ) : EReal) * ∑ m, B n m * H m f + ((1 / 10 : ℝ) : EReal) * G n f

/-- The matrix of two propagation steps. -/
def sq (B : Fin 500 → Fin 500 → EReal) (n m : Fin 500) : EReal := ((81 / 100 : ℝ) : EReal) * ∑ k, B n k * B k m

/-- What two propagation steps add from the restart. -/
def restart (B : Fin 500 → Fin 500 → EReal) (G : Fin 500 → Fin 768 → EReal) (n : Fin 500) (f : Fin 768) : EReal :=
  ((9 / 100 : ℝ) : EReal) * ∑ m, B n m * G m f + ((1 / 10 : ℝ) : EReal) * G n f

/-- Two propagation steps taken as one. -/
def step2 (B : Fin 500 → Fin 500 → EReal) (G H : Fin 500 → Fin 768 → EReal) (n : Fin 500) (f : Fin 768) : EReal :=
  ∑ m, sq B n m * H m f + restart B G n f

/-- A propagation step keeps all entries real. -/
theorem step_real {B : Fin 500 → Fin 500 → EReal} {G H : Fin 500 → Fin 768 → EReal} (hB : RealMat B) (hG : RealMat G)
    (hH : RealMat H) : RealMat (step B G H) := fun n f =>
  ((isReal_coe _).mul (IsReal.sum fun m _ => (hB n m).mul (hH m f))).add ((isReal_coe _).mul (hG n f))

/-- The double step is two single ones, over the reals. -/
theorem step2_eq {B : Fin 500 → Fin 500 → EReal} {G H : Fin 500 → Fin 768 → EReal} (hB : RealMat B) (hG : RealMat G)
    (hH : RealMat H) : step2 B G H = step B G (step B G H) := by
  choose b hb using hB
  choose g hg using hG
  choose h hh using hH
  funext n f
  simp only [step2, sq, restart, step, hb, hg, hh, ← EReal.coe_mul, sum_coe, ← EReal.coe_add]
  congr 1
  have e1 : ∑ m, (81 / 100 * ∑ k, b n k * b k m) * h m f = ∑ k, 81 / 100 * (b n k * ∑ m, b k m * h m f) := by
    simp only [Finset.mul_sum, Finset.sum_mul]
    rw [Finset.sum_comm]
    exact Finset.sum_congr rfl fun k _ => Finset.sum_congr rfl fun m _ => by ring
  rw [e1, ← Finset.mul_sum]
  have e2 : ∑ m, b n m * (9 / 10 * ∑ k, b m k * h k f + 1 / 10 * g m f)
      = 9 / 10 * ∑ m, b n m * ∑ k, b m k * h k f + 1 / 10 * ∑ m, b n m * g m f := by
    rw [Finset.mul_sum, Finset.mul_sum, ← Finset.sum_add_distrib]
    exact Finset.sum_congr rfl fun m _ => by ring
  rw [e2]
  ring

/-- `n` double steps are `2 n` single ones, and all that is reached is real. -/
theorem steps_eq {B : Fin 500 → Fin 500 → EReal} {G H : Fin 500 → Fin 768 → EReal} (hB : RealMat B) (hG : RealMat G)
    (n : ℕ) (hH : RealMat H) : (step2 B G)^[n] H = (step B G)^[2 * n] H := by
  induction n generalizing H with
  | zero => rfl
  | succ n ih =>
    rw [Function.iterate_succ_apply, step2_eq hB hG hH, ih (step_real hB hG (step_real hB hG hH))]
    rw [show 2 * (n + 1) = 2 * n + 1 + 1 by ring, Function.iterate_succ_apply, Function.iterate_succ_apply]

/-! ### The final linear map -/

/-- Place of node `n`, column `f` in the flattened features. -/
def flat (n : Fin 500) (f : Fin 768) : Fin 384000 := ⟨n.val * 768 + f.val, by omega⟩

/-- One output: the flattened features against a row of the weights, plus the bias. -/
def final (w : Fin 2 → Fin 384000 → EReal) (b : Fin 2 → EReal) (H : Fin 500 → Fin 768 → EReal) (o : Fin 2) : EReal :=
  ∑ n, ∑ f, w o (flat n f) * H n f + b o

/-- A sum over the flattened features is the sum over nodes and columns. -/
theorem sum_flat (g : Fin 384000 → EReal) : ∑ k, g k = ∑ n : Fin 500, ∑ f : Fin 768, g (flat n f) := by
  rw [← Fintype.sum_prod_type' (f := fun n f => g (flat n f))]
  refine (Fintype.sum_bijective (fun p : Fin 500 × Fin 768 => flat p.1 p.2) ⟨?_, ?_⟩ _ _ fun _ => rfl).symm
  · rintro ⟨n, f⟩ ⟨n', f'⟩ e
    have e' : n.val * 768 + f.val = n'.val * 768 + f'.val := congrArg Fin.val e
    have h1 : n = n' := Fin.ext (by omega)
    have h2 : f = f' := Fin.ext (by omega)
    rw [h1, h2]
  · intro k
    refine ⟨(⟨k.val / 768, by omega⟩, ⟨k.val % 768, by omega⟩), Fin.ext ?_⟩
    show k.val / 768 * 768 + k.val % 768 = k.val
    omega

/-! ### The whole -/

/-- The network's output `o`. -/
def result (A : Fin 500 → Fin 500 → EReal) (x : Fin 500 → Fin 512 → EReal) (W : Fin 512 → Fin 768 → EReal)
    (s d : Fin 3 → Fin 256 → EReal) (w : Fin 2 → Fin 384000 → EReal) (b : Fin 2 → EReal) (o : Fin 2) : EReal :=
  final w b ((step (adj A) (heads A x W s d))^[10] (heads A x W s d)) o

/-- The output with the propagation in five double steps. -/
theorem result_double (A : Fin 500 → Fin 500 → EReal) (x : Fin 500 → Fin 512 → EReal) {W : Fin 512 → Fin 768 → EReal}
    {s d : Fin 3 → Fin 256 → EReal} (hW : RealMat W) (hs : RealMat s) (hd : RealMat d) (w : Fin 2 → Fin 384000 → EReal)
    (b : Fin 2 → EReal) (o : Fin 2) :
    final w b ((step2 (adj A) (heads A x W s d))^[5] (heads A x W s d)) o = result A x W s d w b o := by
  have hr := heads_real A x hW hs hd
  exact congrArg (fun H => final w b H o) (steps_eq (adj_real A) hr 5 hr)

end Cert.Proof.Spec

end
-- ==== Proof.KernelVal.lean ====
module

public import proofs.«01_k».proof.Proof.KernelRun
public import proofs.«01_k».proof.Proof.Spec
public import Idealize.ShloMosaic.Lib.Pointwise

/-! What the kernel's result is, entry by entry, over the extended reals: each part of its body is read at an index and
met with the function of `Spec` it computes. -/

@[expose] public section

set_option maxRecDepth 16384

noncomputable section

namespace Cert.Proof.KernelVal

open Cert.KernelIdeal Cert.KernelIdeal.Gen Idealize.ShloMosaic Idealize.ShloMosaic.TcCoe Idealize.SL.Sem
open Cert.Proof.KernelRun Cert.Proof.Spec Cert.Proof.Scalars

variable (A : Vec Ideal S500x500 .f32) (x : Vec Ideal S500x512 .f32) (W : Vec Ideal S512x768 .f32)
  (s d : Vec Ideal S3x256 .f32) (w : Vec Ideal S2x384000 .f32) (b : Vec Ideal S2 .f32)

/-! ### The named constants -/

/-- The square of the propagation weight is 81/100. -/
theorem beta_sq : Named.named (F := Ideal) κ "beta_sq" (φ := .f32) 1062165545#32 = ((81 / 100 : ℝ) : EReal) :=
  (IdealRules.named_const.statement κ "beta_sq" .f32 1062165545#32 _ rfl).2.2

/-- The product of the two weights is 9/100. -/
theorem alpha_beta : Named.named (F := Ideal) κ "alpha_beta" (φ := .f32) 1035489772#32 = ((9 / 100 : ℝ) : EReal) :=
  (IdealRules.named_const.statement κ "alpha_beta" .f32 1035489772#32 _ rfl).2.2

/-- The restart weight is 1/10. -/
theorem alpha : Named.named (F := Ideal) κ "alpha" (φ := .f32) 1036831949#32 = ((1 / 10 : ℝ) : EReal) :=
  (IdealRules.named_const.statement κ "alpha" .f32 1036831949#32 _ rfl).2.2

/-! ### The heads -/

/-- The hidden features of all heads. -/
theorem hidden_at (i : Fin 500) (k : Fin 768) :
    k0_pay2 x W (ix2 i k) = hidden (fun i c => x (ix2 i c)) (fun c k => W (ix2 c k)) i k := by
  pointwise [k0_pay2]
  rfl

/-- Head 0 starts at the first column. -/
theorem col0 (k : Fin 256) (h : k.val < 768) : (⟨k.val, h⟩ : Fin 768) = col 0 k := Fin.ext (Nat.zero_add _).symm
/-- Head 1 starts at column 256. -/
theorem col1 (k : Fin 256) (h : 256 + k.val < 768) : (⟨256 + k.val, h⟩ : Fin 768) = col 1 k := rfl
/-- Head 2 starts at column 512. -/
theorem col2 (k : Fin 256) (h : 512 + k.val < 768) : (⟨512 + k.val, h⟩ : Fin 768) = col 2 k := rfl

/-- The features of head `h`. -/
abbrev feat (h : Fin 3) (i : Fin 500) (k : Fin 256) : EReal :=
  hidden (fun i c => x (ix2 i c)) (fun c k => W (ix2 c k)) i (col h k)

/-- The scores of head `h`. -/
abbrev scoreOf (h : Fin 3) : Fin 500 → Fin 500 → EReal :=
  score (fun i j => A (ix2 i j)) (feat x W h) (fun k => s (ix2 h k)) (fun k => d (ix2 h k))

/-- Head 0's scores. -/
theorem scores0 (i j : Fin 500) : k0_pay5 A x W (ROW0 s) (ROW0 d) (ix2 i j) = scoreOf A x W s d 0 i j := by
  pointwise [k0_pay5, k0_pay4, k0_pay3, ROW0]
  simp only [hidden_at, col0]
  rfl

/-- Head 1's scores. -/
theorem scores1 (i j : Fin 500) :
    k0_pay9 (k0_pay2 x W) (k0_pay3 A) (ROW1 s) (ROW1 d) (ix2 i j) = scoreOf A x W s d 1 i j := by
  pointwise [k0_pay9, k0_pay8, k0_pay3, ROW1]
  simp only [hidden_at, col1]
  rfl

/-- Head 2's shifted exponentials. -/
theorem exps2 (i j : Fin 500) : EXPS2 A x W s d (ix2 i j) = expo (scoreOf A x W s d 2) i j := by
  pointwise [EXPS2, k0_pay13, k0_pay12, k0_pay3, ROW2]
  simp only [hidden_at, col2]
  rfl

/-- Head 0 after its linear unit, the division by the softmax sum taken last. -/
theorem head0 (i : Fin 500) (k : Fin 256) :
    HEAD0 A x W s d (ix2 i k) = elu (mixLate (expo (scoreOf A x W s d 0)) (feat x W 0) i k) := by
  pointwise [HEAD0, k0_pay7, k0_pay6, k0_pay4]
  simp only [scores0, hidden_at, col0]
  rfl

/-- Head 1 after its linear unit. -/
theorem head1 (i : Fin 500) (k : Fin 256) :
    HEAD1 A x W s d (ix2 i k) = elu (mixLate (expo (scoreOf A x W s d 1)) (feat x W 1) i k) := by
  pointwise [HEAD1, k0_pay11, k0_pay10, k0_pay8]
  simp only [scores1, hidden_at, col1]
  rfl

/-- Every entry of the weights and of the attention vectors is a real number. -/
structure Finite (W : Vec Ideal S512x768 .f32) (s d : Vec Ideal S3x256 .f32) : Prop where
  weights : RealMat fun c k => W (ix2 c k)
  source : RealMat fun h k => s (ix2 h k)
  target : RealMat fun h k => d (ix2 h k)

/-- The three heads side by side, as a function of node and column. -/
abbrev feats : Fin 500 → Fin 768 → EReal :=
  heads (fun i j => A (ix2 i j)) (fun i c => x (ix2 i c)) (fun c k => W (ix2 c k)) (fun h k => s (ix2 h k))
    (fun h k => d (ix2 h k))

variable {W s d} in
/-- A head with the late division, at a place of its own, is the column of the three heads side by side. -/
theorem head_place (hf : Finite W s d) (h : Fin 3) (k : Fin 256) (f : Fin 768) (hh : headOf f = h) (hk : placeOf f = k)
    (i : Fin 500) : elu (mixLate (expo (scoreOf A x W s d h)) (feat x W h) i k) = feats A x W s d i f := by
  subst hh hk
  exact head_late (fun i k => hidden_real _ hf.weights i _) (hf.source _) (hf.target _) i _

variable {W s d} in
/-- The heads joined, each at its place. -/
theorem joined (hf : Finite W s d) (i : Fin 500) (f : Fin 768) :
    k0_pay14 (HEAD0 A x W s d) (HEAD1 A x W s d) (COLS2 x W) (EXPS2 A x W s d) (ix2 i f) = feats A x W s d i f := by
  have hlt := f.isLt
  pointwise [k0_pay14, COLS2, k0_pay12]
  simp only [head0, head1, exps2, hidden_at, col2]
  by_cases h0 : f.val < 256
  · rw [dif_pos h0]
    exact head_place A x hf 0 ⟨f.val, h0⟩ f (Fin.ext (Nat.div_eq_of_lt h0)) (Fin.ext (Nat.mod_eq_of_lt h0)) i
  rw [dif_neg h0]
  by_cases h1 : f.val - 256 < 256
  · rw [dif_pos h1]
    refine head_place A x hf 1 ⟨f.val - 256, h1⟩ f (Fin.ext ?_) (Fin.ext ?_) i
    · show f.val / 256 = 1
      omega
    · show f.val % 256 = f.val - 256
      omega
  rw [dif_neg h1]
  refine head_place A x hf 2 ⟨f.val - 256 - 256, by omega⟩ f (Fin.ext ?_) (Fin.ext ?_) i
  · show f.val / 256 = 2
    omega
  · show f.val % 256 = f.val - 256 - 256
    omega

/-! ### The propagation -/

/-- The normalised adjacency. -/
theorem adj_at (i j : Fin 500) : k0_pay15 A (ix2 i j) = adj (fun i j => A (ix2 i j)) i j := by
  pointwise [k0_pay15]
  rfl

/-- The matrix of a double step. -/
theorem sq_at (i j : Fin 500) : k0_pay16 A (ix2 i j) = sq (adj fun i j => A (ix2 i j)) i j := by
  pointwise [k0_pay16]
  simp only [beta_sq, adj_at]
  rfl

variable {W s d} in
/-- What a double step adds. -/
theorem restart_at (hf : Finite W s d) (i : Fin 500) (f : Fin 768) :
    k0_pay17 A (HEAD0 A x W s d) (HEAD1 A x W s d) (COLS2 x W) (EXPS2 A x W s d) (ix2 i f)
      = restart (adj fun i j => A (ix2 i j)) (feats A x W s d) i f := by
  pointwise [k0_pay17]
  simp only [alpha_beta, alpha, adj_at, joined A x hf]
  rfl

variable {W s d} in
/-- The first double step. -/
theorem first_at (hf : Finite W s d) (i : Fin 500) (f : Fin 768) :
    k0_pay19 A (HEAD0 A x W s d) (HEAD1 A x W s d) (COLS2 x W) (EXPS2 A x W s d) (ix2 i f)
      = step2 (adj fun i j => A (ix2 i j)) (feats A x W s d) (feats A x W s d) i f := by
  pointwise [k0_pay19]
  simp only [sq_at, restart_at A x hf, joined A x hf]
  rfl

/-- The final weights, split by node. -/
theorem weights_at (o : Fin 2) (n : Fin 500) (f : Fin 768) : k0_pay18 w (ix3 o n f) = w (ix2 o (flat n f)) := by
  pointwise [k0_pay18]
  rfl

variable {W s d} in
/-- The kernel's result is the network's output. -/
theorem res_at (hf : Finite W s d) (o : Fin 2) :
    RES A x W s d w b (ix1 o) = result (fun i j => A (ix2 i j)) (fun i c => x (ix2 i c)) (fun c k => W (ix2 c k))
      (fun h k => s (ix2 h k)) (fun h k => d (ix2 h k)) (fun o k => w (ix2 o k)) (fun o => b (ix1 o)) o := by
  rw [← result_double _ _ hf.weights hf.source hf.target]
  pointwise [RES, OUT, k0_pay1]
  simp only [sq_at, restart_at A x hf, first_at A x hf, weights_at]
  rcases (by omega : o = 0 ∨ o = 1) with rfl | rfl
  · rw [dif_pos (by decide)]
    simp only [Fin.sum_univ_one]
    rfl
  · rw [dif_neg (by decide)]
    simp only [Fin.sum_univ_one]
    rfl

end Cert.Proof.KernelVal

end
-- ==== Proof.RefVal.lean ====
module

public import proofs.«01_k».proof.Proof.Gen.ReferenceIdeal.Run
public import proofs.«01_k».proof.Proof.Spec
public import Idealize.ShloMosaic.Lib.Pointwise
public import Idealize.ShloMosaic.Lib.Tactic.CleanTypes

/-! What the reference's result is, entry by entry, over the extended reals: each named intermediate is read at an index
and met with the function of `Spec` it computes. -/

@[expose] public section

set_option maxRecDepth 16384

noncomputable section

namespace Cert.Proof.RefVal

open Cert.ReferenceIdeal Cert.ReferenceIdeal.Gen Cert.ReferenceIdeal.Value
open Idealize.ShloMosaic Idealize.ShloMosaic.TcCoe Idealize.SL.Sem Idealize.ShloMosaic.StableHlo
open Cert.Proof.Spec Cert.Proof.Scalars

variable (V : Valuation τ sig (Elt Ideal))

/-! ### The arguments by entry -/

/-- The adjacency. -/
abbrev aA (i j : Fin 500) : EReal := (V (Proc.devRef .tc main_arg0) : Vec Ideal S500x500 .f32) (ix2 i j)
/-- The features. -/
abbrev aX (i : Fin 500) (c : Fin 512) : EReal := (V (Proc.devRef .tc main_arg1) : Vec Ideal S500x512 .f32) (ix2 i c)
/-- The feature weights. -/
abbrev aW (c : Fin 512) (k : Fin 768) : EReal := (V (Proc.devRef .tc main_arg2) : Vec Ideal S512x768 .f32) (ix2 c k)
/-- The attention vectors of the receiving node. -/
abbrev aS (h : Fin 3) (k : Fin 256) : EReal := (V (Proc.devRef .tc main_arg3) : Vec Ideal S3x256 .f32) (ix2 h k)
/-- The attention vectors of the sending node. -/
abbrev aD (h : Fin 3) (k : Fin 256) : EReal := (V (Proc.devRef .tc main_arg4) : Vec Ideal S3x256 .f32) (ix2 h k)
/-- The final weights. -/
abbrev aw (o : Fin 2) (k : Fin 384000) : EReal := (V (Proc.devRef .tc main_arg5) : Vec Ideal S2x384000 .f32) (ix2 o k)
/-- The final bias. -/
abbrev ab (o : Fin 2) : EReal := (V (Proc.devRef .tc main_arg6) : Vec Ideal S2 .f32) (ix1 o)

/-- The features of head `h`. -/
abbrev feat (h : Fin 3) (i : Fin 500) (k : Fin 256) : EReal := hidden (aX V) (aW V) i (col h k)

/-- The scores of head `h`. -/
abbrev scoreOf (h : Fin 3) : Fin 500 → Fin 500 → EReal := score (aA V) (feat V h) (aS V h) (aD V h)

/-! ### The attention -/

/-- The hidden features, split by head. -/
theorem hidden_at (i : Fin 500) (h : Fin 3) (k : Fin 256) :
    (res_main_v8 V : Vec Ideal S500x3x256 .f32) (ix3 i h k) = feat V h i k := by
  unfold res_main_v8
  clean_types
  pointwise
  rfl

/-- The scores. -/
theorem score_at (i j : Fin 500) (h : Fin 3) :
    (res_main_v22 V : Vec Ideal S500x500x3 .f32) (ix3 i j h) = scoreOf V h i j := by
  unfold res_main_v22 res_main_v17
  clean_types
  pointwise
  simp only [hidden_at]
  unfold scoreOf score
  simp only [mul_comm (feat V _ _ _)]
  rfl

/-- The shifted exponentials. -/
theorem expo_at (i j : Fin 500) (h : Fin 3) :
    (res_main_v29 V : Vec Ideal S500x500x3 .f32) (ix3 i j h) = expo (scoreOf V h) i j := by
  unfold res_main_v29
  clean_types
  pointwise
  simp only [score_at, max_lit_bot]
  rfl

/-- The averaged features. -/
theorem mix_at (i : Fin 500) (h : Fin 3) (k : Fin 256) :
    (res_main_v35 V : Vec Ideal S500x3x256 .f32) (ix3 i h k) = mix (expo (scoreOf V h)) (feat V h) i k := by
  unfold res_main_v35
  clean_types
  pointwise
  simp only [hidden_at, expo_at]
  rfl

/-- The three heads side by side. -/
abbrev feats : Fin 500 → Fin 768 → EReal := heads (aA V) (aX V) (aW V) (aS V) (aD V)

/-- The three heads after the linear unit, side by side. -/
theorem heads_at (i : Fin 500) (f : Fin 768) :
    (res_main_v37 V : Vec Ideal S500x768 .f32) (ix2 i f) = feats V i f := by
  unfold res_main_v37
  clean_types
  pointwise
  simp only [mix_at]
  refine Eq.trans ?_ (elu_eq _).symm
  rw [← Ideal.ofBits_zero_f32]
  rfl

/-! ### The propagation -/

/-- The normalised adjacency. -/
theorem adj_at (i j : Fin 500) : (res_main_v50 V : Vec Ideal S500x500 .f32) (ix2 i j) = adj (aA V) i j := by
  unfold res_main_v50 res_main_v44 res_main_v38
  clean_types
  pointwise
  unfold adj dinv
  rw [dinv_eq, dinv_eq]
  rw [← Ideal.ofBits_zero_f32]
  rfl

/-- The restart weight. -/
theorem alpha_at : (res_main_v51 V : Vec Ideal S_ .f32) ix0 = ((1 / 10 : ℝ) : EReal) := by
  unfold res_main_v51
  clean_types
  pointwise
  exact one_div_ten

/-- One less a tenth. -/
theorem beta_eq : (1 : EReal) - ((1 / 10 : ℝ) : EReal) = ((9 / 10 : ℝ) : EReal) := by
  rw [← EReal.coe_one, ← EReal.coe_sub]
  congr 1
  norm_num

/-- The propagation weight is 9/10. -/
theorem beta_at : (subf (constant S_ .f32 0x3F800000#32) (res_main_v51 V) : FVec Ideal S_ .f32) ix0 = ((9 / 10 : ℝ) : EReal) := by
  pointwise
  rw [alpha_at]
  exact beta_eq

/-- One propagation step of the reference, from the array `H`. -/
def astep (H : FVec Ideal S500x768 .f32) : FVec Ideal S500x768 .f32 :=
  addf (mulf (broadcastInDim S500x768 ![] bcast_S_S500x768 (id (subf (constant S_ .f32 0x3F800000#32) (res_main_v51 V))))
      (Host.dotGeneral (φ₁ := .f32) (φ₂ := .f32) dot_S500x500_S500x768_S500x768_1_0_0_1_n_n none (res_main_v50 V : FVec Ideal S500x500 .f32) H))
    (mulf (broadcastInDim S500x768 ![] bcast_S_S500x768 (id (res_main_v51 V))) (res_main_v37 V))

/-- A step from an array whose entries are known is a step of the network. -/
theorem astep_at (H : FVec Ideal S500x768 .f32) (G : Fin 500 → Fin 768 → EReal) (h : ∀ n f, H (ix2 n f) = G n f)
    (n : Fin 500) (f : Fin 768) : astep V H (ix2 n f) = step (adj (aA V)) (feats V) G n f := by
  pointwise [astep]
  simp only [id, h, adj_at, heads_at, alpha_at]
  rw [beta_at]
  rfl

/-- Any number of steps. -/
theorem steps_at (t : ℕ) : ∀ n f, ((astep V)^[t] (res_main_v37 V)) (ix2 n f)
    = ((step (adj (aA V)) (feats V))^[t] (feats V)) n f := by
  induction t with
  | zero => exact heads_at V
  | succ t ih =>
    rw [Function.iterate_succ_apply', Function.iterate_succ_apply']
    exact astep_at V _ _ ih

/-! ### The whole -/

/-- The reference's result as an array: ten steps, flattened, through the final map. -/
def REF : FVec Ideal S2 .f32 :=
  addf (Host.dotGeneral (φ₁ := .f32) (φ₂ := .f32) dot_S2x384000_S384000_S2_1_0_0_n_n_n none (V (Proc.devRef .tc main_arg5) : FVec Ideal S2x384000 .f32)
    (shapeCast S384000 (astep V (astep V (astep V (astep V (astep V (astep V (astep V (astep V (astep V (astep V
      (res_main_v37 V))))))))))) shapeCasts_S500x768_S384000)) (V (Proc.devRef .tc main_arg6))

/-- The reference's result is the network's output. -/
theorem ref_at (o : Fin 2) : REF V (ix1 o) = result (aA V) (aX V) (aW V) (aS V) (aD V) (aw V) (ab V) o := by
  unfold REF
  have hH := steps_at V 10
  simp only [Function.iterate_succ_apply', Function.iterate_zero_apply] at hH
  generalize astep V (astep V (astep V (astep V (astep V (astep V (astep V (astep V (astep V (astep V
    (res_main_v37 V)))))))))) = H at hH ⊢
  pointwise
  refine congrArg (· + ab V o) ((sum_flat _).trans ?_)
  refine Finset.sum_congr rfl fun n _ => Finset.sum_congr rfl fun f _ => ?_
  have hn : (flat n f).val / 768 = n.val := by show (n.val * 768 + f.val) / 768 = n.val; omega
  have hf : (flat n f).val % 768 = f.val := by show (n.val * 768 + f.val) % 768 = f.val; omega
  exact congrArg (aw V o (flat n f) * ·)
    ((congrArg₂ (fun a b => H (ix2 a b)) (Fin.ext hn) (Fin.ext hf)).trans (hH n f))

end Cert.Proof.RefVal

end
-- ==== Proof.RefRun.lean ====
module

public import proofs.«01_k».proof.Proof.RefVal

/-! The reference's run, its result named. -/

@[expose] public section

set_option maxRecDepth 65536

noncomputable section

namespace Cert.Proof.RefRun

open Cert.ReferenceIdeal Cert.ReferenceIdeal.Gen Cert.ReferenceIdeal.Value Cert.Proof.RefVal
open Idealize.ShloMosaic Idealize.ShloMosaic.TcCoe Idealize.SL.Sem Idealize.ShloMosaic.StableHlo

/-- From any memory the reference runs to its end with its result at `REF` and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144) = REF (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Proof.RefRun

end
-- ==== Proof.PreVal.lean ====
module

public import proofs.«01_k».proof.Pre_finite
public import proofs.«01_k».proof.Proof.Gen.Pre_finite
public import proofs.«01_k».proof.Proof.Scalars
public import Idealize.ShloMosaic.Lib.Pointwise

/-! What the precondition says: the feature weights and both tables of attention vectors hold real numbers only. -/

@[expose] public section

set_option maxRecDepth 16384

noncomputable section

namespace Cert.Proof.PreVal

open Cert.Pre_finite Cert.Pre_finite.Gen Idealize.ShloMosaic Cert.Proof.Scalars

variable (A : FVec Ideal S500x500 .f32) (x : FVec Ideal S500x512 .f32) (W : FVec Ideal S512x768 .f32)
  (s d : FVec Ideal S3x256 .f32) (w : FVec Ideal S2x384000 .f32) (b : FVec Ideal S2 .f32)

/-- The conjunction of two bits is one only if both are. -/
theorem and_one : ∀ {p q : BitVec 1}, IntOp.andi p q = 1#1 → p = 1#1 ∧ q = 1#1 := by
  unfold IntOp.andi
  decide

/-- The conjunction of a family of bits is one only if all are. -/
theorem all_one {ι : Type} (f : ι → BitVec 1) (t : Finset ι) (h : Finset.fold IntOp.andi (1#1) f t = 1#1) :
    ∀ i ∈ t, f i = 1#1 := by
  classical
  induction t using Finset.induction_on with
  | empty => intro i hi; simp at hi
  | insert a t ha ih =>
    rw [Finset.fold_insert ha] at h
    obtain ⟨h1, h2⟩ := and_one h
    intro i hi
    rcases Finset.mem_insert.mp hi with rfl | hi
    · exact h1
    · exact ih h2 i hi

/-- A number whose magnitude is below plus infinity is real. -/
theorem real_of_bit {y : EReal}
    (h : BitVec.ofBool (decide (FloatOps.absf (F := Ideal) (φ := .f32) y < Ideal.ofBits .f32 2139095040#32)) = 1#1) :
    IsReal y := by
  have hlt : max y (-y) < ⊤ := by
    by_contra hn
    have e : decide (FloatOps.absf (F := Ideal) (φ := .f32) y < Ideal.ofBits .f32 2139095040#32) = false :=
      decide_eq_false (by rw [lit_top]; exact hn)
    rw [e] at h
    exact absurd h (by decide)
  refine isReal_of_ne ?_ ?_ <;> intro e <;> rw [e] at hlt <;> simp at hlt

/-- Under the precondition the weights and both attention tables are real at every entry. -/
theorem reals (h : fn A x W s d w b = fun _ => 1#1) :
    (∀ c k, IsReal (W (ix2 c k))) ∧ (∀ h k, IsReal (s (ix2 h k))) ∧ ∀ h k, IsReal (d (ix2 h k)) := by
  have h0 := congrFun h ix0
  pointwise [fn] at h0
  obtain ⟨h1, h2⟩ := and_one h0
  obtain ⟨h3, h4⟩ := and_one h2
  exact ⟨fun c k => real_of_bit (all_one _ _ h1 (c, k) (Finset.mem_univ _)),
    fun r k => real_of_bit (all_one _ _ h3 (r, k) (Finset.mem_univ _)),
    fun r k => real_of_bit (all_one _ _ h4 (r, k) (Finset.mem_univ _))⟩

end Cert.Proof.PreVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.KernelRun
public import proofs.«01_k».proof.Proof.KernelVal
public import proofs.«01_k».proof.Proof.RefVal
public import proofs.«01_k».proof.Proof.RefRun
public import proofs.«01_k».proof.Proof.PreVal
public import Idealize.ShloMosaic.Adequacy
public import Idealize.ShloMosaic.Init

@[expose] public section

noncomputable section

namespace Cert.Proof

open Idealize.ShloMosaic Idealize.ShloMosaic.TcCoe Idealize.SL.Sem

/-- The reference runs to its end from any memory: its arguments end unchanged and every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩) (RefRun.run m ρ)

/-- The three literals the idealization reads as exact fractions. -/
theorem idealized : Cert.preserves_Kernel_KernelIdeal :=
  ⟨IdealRules.named_const.statement Cert.KernelIdeal.κ "beta_sq" .f32 0x3F4F5C29#32 ((81 / 100 : ℝ) : EReal) rfl,
    IdealRules.named_const.statement Cert.KernelIdeal.κ "alpha_beta" .f32 0x3DB851EC#32 ((9 / 100 : ℝ) : EReal) rfl,
    IdealRules.named_const.statement Cert.KernelIdeal.κ "alpha" .f32 0x3DCCCCCD#32 ((1 / 10 : ℝ) : EReal) rfl⟩

/-- Equal arguments give equal outputs of the network. -/
theorem args_eq {A A' : Fin 500 → Fin 500 → EReal} {x x' : Fin 500 → Fin 512 → EReal} {W W' : Fin 512 → Fin 768 → EReal}
    {s s' d d' : Fin 3 → Fin 256 → EReal} {w w' : Fin 2 → Fin 384000 → EReal} {b b' : Fin 2 → EReal} (hA : A = A')
    (hx : x = x') (hW : W = W') (hs : s = s') (hd : d = d') (hw : w = w') (hb : b = b') (o : Fin 2) :
    Spec.result A x W s d w b o = Spec.result A' x' W' s' d' w' b' o := by
  subst hA hx hW hs hd hw hb
  rfl

/-- The kernel and the reference end with the same result where the weights and the attention vectors are finite. -/
theorem same_result : Cert.algebraic_KernelIdeal_ReferenceIdeal_pre_finite := by
  intro m ρ m' ρ' hpre hagree
  refine ⟨_, KernelRun.run (F := Ideal) m ρ, ?_⟩
  refine (θ_run Cert.ReferenceIdeal.defs _ _).mono (fun _ h c => ⟨(h c).1.trans ?_, (h c).2⟩) (RefRun.run m' ρ')
  obtain ⟨hW, hs, hd⟩ := PreVal.reals _ _ _ _ _ _ _ (hpre c)
  obtain ⟨e0, e1, e2, e3, e4, e5, e6⟩ := hagree c
  funext j
  idx_vars j
  refine (RefVal.ref_at _ _).trans (Eq.trans ?_ (KernelVal.res_at _ _ _ _ ⟨hW, hs, hd⟩ _).symm)
  exact args_eq (funext fun i => funext fun k => congrFun e0 (ix2 i k)) (funext fun i => funext fun k => congrFun e1 (ix2 i k))
    (funext fun i => funext fun k => congrFun e2 (ix2 i k)) (funext fun i => funext fun k => congrFun e3 (ix2 i k))
    (funext fun i => funext fun k => congrFun e4 (ix2 i k)) (funext fun i => funext fun k => congrFun e5 (ix2 i k))
    (funext fun i => congrFun e6 (ix1 i)) _

/-- All the claims together. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  idealized,
  same_result⟩

end Cert.Proof

end
